-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x2048x4096 : Shape := ⟨3, ![4, 2048, 4096]⟩
abbrev S2048x4096 : Shape := ⟨2, ![2048, 4096]⟩
abbrev S4x128x4096 : Shape := ⟨3, ![4, 128, 4096]⟩
abbrev S128x4096 : Shape := ⟨2, ![128, 4096]⟩
abbrev S1x128x4096 : Shape := ⟨3, ![1, 128, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S2048x4096, .f32⟩
  | .hbm, ⟨2, _⟩ => ⟨S4x2048x4096, .f32⟩
  | .local _ .vmem, ⟨0, _⟩ => ⟨S4x128x4096, .f32⟩
  | .local _ .vmem, ⟨1, _⟩ => ⟨S4x128x4096, .f32⟩
  | .local _ .vmem, ⟨2, _⟩ => ⟨S128x4096, .f32⟩
  | .local _ .vmem, ⟨3, _⟩ => ⟨S128x4096, .f32⟩
  | .local _ .vmem, ⟨4, _⟩ => ⟨S4x128x4096, .f32⟩
  | .local _ .vmem, ⟨5, _⟩ => ⟨S4x128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S4x2048x4096 : Shape := ⟨3, ![4, 2048, 4096]⟩
abbrev S2048x4096 : Shape := ⟨2, ![2048, 4096]⟩
abbrev S2048 : Shape := ⟨1, ![2048]⟩
abbrev S1x2048 : Shape := ⟨2, ![1, 2048]⟩
abbrev S_ : Shape := ⟨0, ![]⟩
abbrev S1x2048x1 : Shape := ⟨3, ![1, 2048, 1]⟩
abbrev S1 : Shape := ⟨1, ![1]⟩
abbrev S1x1x1 : Shape := ⟨3, ![1, 1, 1]⟩
abbrev S1x2048x4096 : Shape := ⟨3, ![1, 2048, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2048x4096, .f32⟩
  | .hbm, ⟨2, _⟩ => ⟨S2048, .i32⟩
  | .hbm, ⟨3, _⟩ => ⟨S1x2048, .i32⟩
  | .hbm, ⟨4, _⟩ => ⟨S_, .i32⟩
  | .hbm, ⟨5, _⟩ => ⟨S1x2048, .i32⟩
  | .hbm, ⟨6, _⟩ => ⟨S1x2048, .i1⟩
  | .hbm, ⟨7, _⟩ => ⟨S_, .i32⟩
  | .hbm, ⟨8, _⟩ => ⟨S1x2048, .i32⟩
  | .hbm, ⟨9, _⟩ => ⟨S1x2048, .i32⟩
  | .hbm, ⟨10, _⟩ => ⟨S1x2048, .i32⟩
  | .hbm, ⟨11, _⟩ => ⟨S1x2048x1, .i32⟩
  | .hbm, ⟨12, _⟩ => ⟨S1, .i32⟩
  | .hbm, ⟨13, _⟩ => ⟨S_, .i32⟩
  | .hbm, ⟨14, _⟩ => ⟨S1x2048x1, .i32⟩
  | .hbm, ⟨15, _⟩ => ⟨S1x2048x1, .i1⟩
  | .hbm, ⟨16, _⟩ => ⟨S1x1x1, .i32⟩
  | .hbm, ⟨17, _⟩ => ⟨S1x2048x1, .i32⟩
  | .hbm, ⟨18, _⟩ => ⟨S1x2048x1, .i1⟩
  | .hbm, ⟨19, _⟩ => ⟨S1x2048x1, .i1⟩
  | .hbm, ⟨20, _⟩ => ⟨S_, .i1⟩
  | .hbm, ⟨21, _⟩ => ⟨S1x2048, .i1⟩
  | .hbm, ⟨22, _⟩ => ⟨S1x2048x4096, .f32⟩
  | .hbm, ⟨23, _⟩ => ⟨S1x2048x4096, .i1⟩
  | .hbm, ⟨24, _⟩ => ⟨S_, .f32⟩
  | .hbm, ⟨25, _⟩ => ⟨S1x2048x4096, .f32⟩
  | .hbm, ⟨26, _⟩ => ⟨S1x2048x4096, .f32⟩
  | .hbm, ⟨27, _⟩ => ⟨S4x2048x4096, .f32⟩
  | .hbm, ⟨28, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Embed.Spec.lean ====
/-
  What both programs compute, written once and for any float instance: every sequence of the batch with the table of
  position embeddings added to it. Entry (b, s, d) of the result is entry (b, s, d) of the batch plus entry (s, d) of
  the table.
-/
module

public import Idealize.ShloMosaic.Lib.ValueIdxCore

@[expose] public section

noncomputable section

namespace Cert.Embed

open Idealize.ShloMosaic Idealize.ShloMosaic.ValueIdx

/-- The batch: 4 sequences of 2048 positions, 4096 features each. -/
abbrev SBatch : Shape := ⟨3, ![4, 2048, 4096]⟩
/-- The table of position embeddings: one row of 4096 features for each of the 2048 positions. -/
abbrev STable : Shape := ⟨2, ![2048, 4096]⟩

variable {F : FTy → Type} [FloatOps F]

/-- The batch `x` with the table `e` added to each of its sequences. -/
def withPositions (x : FVec F SBatch .f32) (e : FVec F STable .f32) : FVec F SBatch .f32 :=
  fun i => FloatOps.addf (x i) (e (ix2 (i 1) (i 2)))

end Cert.Embed

end
-- ==== Proof.Embed.KernelIdeal.lean ====
/-
  The tiled kernel read over the extended reals: its result array is the batch with the table added to it.

  At grid point `t` the kernel holds rows 128·t to 128·t + 127 of every sequence and the same rows of the table, and adds
  the one to the other; the 16 points' blocks tile the result.
-/
module

public import proofs.«01_k».proof.Proof.Embed.Spec
public import proofs.«01_k».proof.Proof.Gen.KernelIdeal.Value

@[expose] public section

noncomputable section

namespace Cert.KernelIdeal.Embed

open Cert.KernelIdeal Cert.KernelIdeal.Gen Idealize.ShloMosaic Idealize.ShloMosaic.TcCoe Idealize.SL.Sem Idealize.ShloMosaic.ValueIdx
open Cert.Embed (withPositions)

variable {F : FTy → Type} [FloatOps F]
variable (m : (ℓ : Loc nD τ sig) → Buf (Elt F) ℓ) (ρ : Dev nD → PrngReg)

/-- Device `c`'s batch with its table added: what the result array is shown to hold. -/
abbrev total (c : Dev nD) : Buf (Elt F) ((c : Thread nD τ).loc main_v0) :=
  withPositions (F := F) (m ((c : Thread nD τ).loc main_arg0)) (m ((c : Thread nD τ).loc main_arg1))

theorem zero3 : (![0, 0, 0] : Fin 3 → Nat) = fun _ => 0 := funext fun a => by fin_cases a <;> rfl
theorem zero2 : (![0, 0] : Fin 2 → Nat) = fun _ => 0 := funext fun a => by fin_cases a <;> rfl

/-- The block of the table sits at the rows that the result's block is at, over all columns. -/
theorem table_index : ∀ t : Fin cfg0.N, win0_1.index t 0 = win0_2.index t 1 ∧ win0_1.index t 1 = win0_2.index t 2 :=
  (by decide +kernel : ∀ t : Fin grid0.N, win0_1.index t 0 = win0_2.index t 1 ∧ win0_1.index t 1 = win0_2.index t 2)

/-- The result's block at point `t`: block `t` of the rows, all sequences and all columns. -/
theorem result_index : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)

/-- What the body leaves in the result's staging buffer, read at an index: the batch's block there plus the table's
    block at the row and the column. -/
theorem out_apply (x : Vec F S4x128x4096 .f32) (e : Vec F S128x4096 .f32) (y : S4x128x4096.Idx) :
    out0_2 x e y = FloatOps.addf (x y) (e (ix2 (y 1) (y 2))) := by
  unfold out0_2
  rw [View.ld_unit_zero zero3, View.ld_unit_zero zero2, Value.canon2_eq]
  refine congrArg₂ FloatOps.addf (congrArg x (funext fun a => ?_)) (congrArg e (funext fun a => ?_))
  · match a with | ⟨0, _⟩ => rfl | ⟨1, _⟩ => rfl | ⟨2, _⟩ => rfl
  · match a with | ⟨0, _⟩ => rfl | ⟨1, _⟩ => rfl

/-- Point `t` writes back block `t` of `total`. -/
theorem flushed_eq (c : Dev nD) (t : Fin cfg0.N) :
    (dats m 0 c).flushed 2 t = (win0_2.blk t).view.read (Elt F) (total m c) := by
  rw [Value.flushed2]
  funext y
  refine (out_apply (iblk m c 0 t) (iblk m c 1 t) y).trans ?_
  refine congrArg₂ FloatOps.addf rfl (congrArg (m ((c : Thread nD τ).loc main_arg1)) (funext fun a => Fin.ext ?_))
  obtain ⟨h0, h1⟩ := table_index t
  match a with
  | ⟨0, _⟩ =>
    show ((win0_1.rect t).emb (ix2 (y 1) (y 2)) 0 : Nat) = ((win0_2.rect t).emb y 1 : Nat)
    rw [win0_1.rect_emb_val t _ 0, win0_2.rect_emb_val t _ 1, h0]; rfl
  | ⟨1, _⟩ =>
    show ((win0_1.rect t).emb (ix2 (y 1) (y 2)) 1 : Nat) = ((win0_2.rect t).emb y 2 : Nat)
    rw [win0_1.rect_emb_val t _ 1, win0_2.rect_emb_val t _ 2, h1]; rfl

/-- An index is in point `t`'s block exactly when its row is one of the block's 128 rows. -/
theorem mem_block (t : Fin cfg0.N) (i : S4x2048x4096.Idx) :
    i ∈ ((cfg0.win 2).blk t).view.set ↔ t.val * 128 ≤ (i 1 : Nat) ∧ (i 1 : Nat) < t.val * 128 + 128 := by
  show i ∈ ((View.whole main_v0).slice (win0_2.rect t)).set ↔ _
  rw [View.set_slice_whole, Rect.mem_set_unit]
  obtain ⟨e0, e1, e2⟩ := result_index t
  have l0 : (i 0 : Nat) < 4 := (i 0).isLt
  have l2 : (i 2 : Nat) < 4096 := (i 2).isLt
  have o0 : win0_2.index t 0 * win0_2.size 0 = 0 := by rw [e0, Nat.zero_mul]
  have o1 : win0_2.index t 1 * win0_2.size 1 = t.val * 128 := by rw [e1]; rfl
  have o2 : win0_2.index t 2 * win0_2.size 2 = 0 := by rw [e2, Nat.zero_mul]
  refine ⟨fun h => ?_, fun h a => ?_⟩
  · have h' : win0_2.index t 1 * win0_2.size 1 ≤ (i 1 : Nat) ∧ (i 1 : Nat) < win0_2.index t 1 * win0_2.size 1 + 128 := h 1
    rwa [o1] at h'
  · match a with
    | ⟨0, _⟩ =>
      show win0_2.index t 0 * win0_2.size 0 ≤ (i 0 : Nat) ∧ (i 0 : Nat) < win0_2.index t 0 * win0_2.size 0 + 4
      rw [o0]; omega
    | ⟨1, _⟩ =>
      show win0_2.index t 1 * win0_2.size 1 ≤ (i 1 : Nat) ∧ (i 1 : Nat) < win0_2.index t 1 * win0_2.size 1 + 128
      rw [o1]; exact h
    | ⟨2, _⟩ =>
      show win0_2.index t 2 * win0_2.size 2 ≤ (i 2 : Nat) ∧ (i 2 : Nat) < win0_2.index t 2 * win0_2.size 2 + 4096
      rw [o2]; omega

/-- The 16 blocks tile the result: row `r` is in block `r / 128`. -/
theorem cover (i : S4x2048x4096.Idx) :
    ∃ t : Fin cfg0.N, (cfg0.win 2).flush t = true ∧ i ∈ ((cfg0.win 2).blk t).view.set := by
  have l1 : (i 1 : Nat) < 2048 := (i 1).isLt
  have hN : cfg0.N = 16 := N_0
  refine ⟨⟨(i 1 : Nat) / 128, by omega⟩, flush0_2 _, ?_⟩
  rw [mem_block]
  dsimp only
  omega

/-- After the run the result array is `total`. -/
theorem final_eq (c : Dev nD) : (dats m 0 c).arrAt 2 cfg0.N = total m c :=
  (dats m 0 c).arrAt_eq_of_cover 2 (total m c) (fun t _ => flushed_eq m c t) cover

/-- Every run of the kernel terminates with the result array at `total` and the arguments unchanged. -/
theorem run : θ_run defs (onTc (τ := τ) (main (F := F))) ⟨m, fun _ => 0, ρ⟩ fun r => ∀ c : Dev nD,
      r.2.mem ((c : Thread nD τ).loc main_v0) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.KernelIdeal.Embed

end
-- ==== Proof.Embed.Lookup.lean ====
/-
  The reference's lookup, read at an index. The reference writes the positions 0, 1, …, 2047, wraps the negative ones
  (there are none), gathers those rows of the table, and puts a NaN in every row whose position is out of range (none
  is). So the looked-up array is the table itself, and the reference's result is `withPositions`.

  The statements take the shape evidence as arguments, so that they apply to the reference at either float instance.
-/
module

public import proofs.«01_k».proof.Proof.Embed.Spec
public import Idealize.ShloMosaic.Lib.Pipeline.Value
public import Idealize.ShloMosaic.Lib.ReduceAll
public import Idealize.ShloMosaic.Lib.StableHlo.Predicate
public import Idealize.ShloMosaic.Lib.IdealHost

@[expose] public section

noncomputable section

namespace Cert.Embed

open Idealize.ShloMosaic Idealize.ShloMosaic.ValueIdx Idealize.ShloMosaic.StableHlo.Predicate

/-! ## Shapes -/

abbrev SScalar : Shape := ⟨0, ![]⟩
abbrev SOne : Shape := ⟨1, ![1]⟩
abbrev SOne3 : Shape := ⟨3, ![1, 1, 1]⟩
abbrev SPos : Shape := ⟨1, ![2048]⟩
abbrev SPosRow : Shape := ⟨2, ![1, 2048]⟩
abbrev SPosIdx : Shape := ⟨3, ![1, 2048, 1]⟩
abbrev SLooked : Shape := ⟨3, ![1, 2048, 4096]⟩

/-! ## One position as a word -/

/-- A position is not negative, so the wrap of negative positions leaves it. -/
theorem wrap_word (n : Nat) (hn : n < 2048) :
    Scalar.select (IntOp.cmpi .slt (BitVec.ofNat 32 n) 0#32) (IntOp.addi (BitVec.ofNat 32 n) 2048#32) (BitVec.ofNat 32 n)
      = BitVec.ofNat 32 n := by
  have hz : IntOp.cmpi .slt (BitVec.ofNat 32 n) 0#32 = 0#1 := eq_zero_of_ne_one fun h =>
    absurd ((slt_ofNat_iff n 0 (by omega) (by omega)).mp h) (Nat.not_lt_zero n)
  rw [hz, select_zero]

/-- A position is in range: at least 0 and at most 2047. -/
theorem range_word (n : Nat) (hn : n < 2048) :
    IntOp.andi (IntOp.cmpi .sge (BitVec.ofNat 32 n) 0#32) (IntOp.cmpi .sle (BitVec.ofNat 32 n) 2047#32) = 1#1 := by
  have h1 : IntOp.cmpi .sge (BitVec.ofNat 32 n) 0#32 = 1#1 :=
    (sle_ofNat_iff 0 n (by omega) (by omega)).mpr (Nat.zero_le n)
  have h2 : IntOp.cmpi .sle (BitVec.ofNat 32 n) 2047#32 = 1#1 :=
    (sle_ofNat_iff n 2047 (by omega) (by omega)).mpr (by omega)
  rw [h1, h2]; rfl

/-! ## The start indices -/

/-- The row of positions holds position `s` at `(0, s)`. -/
theorem positions_apply (h : SPos.BroadcastsInDim SPosRow (![1] : Fin 1 → Fin SPosRow.rank)) (y : SPosRow.Idx) :
    broadcastInDim SPosRow ![1] h (iotaInDim SPos 32 0) y = BitVec.ofNat 32 (y 1).val := by
  refine (broadcastInDim_apply _ h _ y (ix1 (y 1)) fun a => ?_).trans (iotaInDim_apply 32 0 _)
  match a with
  | ⟨0, _⟩ => exact (if_neg (show ¬(2048 : Nat) = 1 by omega)).symm

/-- The start indices, the wrap included, hold position `s` at `(0, s, 0)`. -/
theorem startIdx_apply (h : SPos.BroadcastsInDim SPosRow (![1] : Fin 1 → Fin SPosRow.rank))
    (h0 : SScalar.BroadcastsInDim SPosRow (![] : Fin 0 → Fin SPosRow.rank))
    (h2 : SPosRow.BroadcastsInDim SPosIdx (![0, 1] : Fin 2 → Fin SPosIdx.rank)) (y : SPosIdx.Idx) :
    broadcastInDim SPosIdx ![0, 1] h2
        (select (cmpi .slt (broadcastInDim SPosRow ![1] h (iotaInDim SPos 32 0)) (broadcastInDim SPosRow ![] h0 (constantI SScalar 32 0#32)))
          (addi (broadcastInDim SPosRow ![1] h (iotaInDim SPos 32 0)) (broadcastInDim SPosRow ![] h0 (constantI SScalar 32 2048#32)))
          (broadcastInDim SPosRow ![1] h (iotaInDim SPos 32 0))) y
      = BitVec.ofNat 32 (y 1).val := by
  refine (broadcastInDim_apply _ h2 _ y (ix2 (y 0) (y 1)) fun a => ?_).trans ?_
  · match a with
    | ⟨0, _⟩ =>
      have h0 : (y 0).val < 1 := (y 0).isLt
      show (y 0).val = if (1 : Nat) = 1 then 0 else (y 0).val
      rw [if_pos rfl]; omega
    | ⟨1, _⟩ => exact (if_neg (show ¬(2048 : Nat) = 1 by omega)).symm
  · rw [select_apply]
    show Scalar.select (IntOp.cmpi .slt (broadcastInDim SPosRow ![1] h (iotaInDim SPos 32 0) (ix2 (y 0) (y 1))) 0#32)
      (IntOp.addi (broadcastInDim SPosRow ![1] h (iotaInDim SPos 32 0) (ix2 (y 0) (y 1))) 2048#32)
      (broadcastInDim SPosRow ![1] h (iotaInDim SPos 32 0) (ix2 (y 0) (y 1))) = _
    rw [positions_apply h]
    exact wrap_word (y 1).val (y 1).isLt

/-! ## The gather of rows -/

section Gather
variable {α : Type}

/-- The dimension numbers of a gather of whole rows of the table, one for each position. -/
abbrev rowDims (wf : GatherDims.WF STable SPosIdx SLooked [2] [0] [] [0] [] 2 ![1, 4096]) : GatherDims STable SPosIdx SLooked where
  offsetDims := [2]
  collapsedSliceDims := [0]
  operandBatchingDims := []
  startIndicesBatchingDims := []
  startIndexMap := [0]
  indexVectorDim := 2
  sliceSizes := ![1, 4096]
  wf := wf

/-- Where the start index for position `s` is `s` itself, the gather reads row `s` of the table. -/
theorem gatherRows_apply (wf : GatherDims.WF STable SPosIdx SLooked [2] [0] [] [0] [] 2 ![1, 4096]) (e : STable.Idx → α)
    (idx : IVec SPosIdx 32) (hidx : ∀ y, idx y = BitVec.ofNat 32 (y 1).val) (j : SLooked.Idx) :
    Host.gather (rowDims wf) e idx j = e (ix2 (j 1) (j 2)) := by
  have hs : (j 1).val < 2048 := (j 1).isLt
  refine congrArg e (funext fun a => Fin.ext ?_)
  show (rowDims wf).start j idx a + (rowDims wf).batchCoord j a + (rowDims wf).offCoord j a = _
  rw [GatherDims.batchCoord_eq_zero _ _ _ List.not_mem_nil, Nat.add_zero]
  match a with
  | ⟨0, _⟩ =>
    have hoff : (rowDims wf).offCoord j (0 : Fin 2) = 0 :=
      GatherDims.offCoord_eq_zero _ _ _ fun h => ((GatherDims.mem_sKept _ _).mp h).1 (List.mem_singleton.mpr rfl)
    have hstart : (rowDims wf).start j idx (0 : Fin 2) = (j 1).val := by
      unfold GatherDims.start
      rw [dif_pos (show (0 : Fin 2) ∈ (rowDims wf).startIndexMap from List.mem_singleton.mpr rfl), hidx]
      show min (BitVec.ofNat 32 (j 1).val).toInt.toNat 2047 = (j 1).val
      rw [toInt_ofNat_small _ (by omega)]
      omega
    exact congrArg₂ (· + ·) hstart hoff
  | ⟨1, _⟩ =>
    have hoff : (rowDims wf).offCoord j (1 : Fin 2) = (j 2).val := rfl
    have hstart : (rowDims wf).start j idx (1 : Fin 2) = 0 := rfl
    exact (congrArg₂ (· + ·) hstart hoff).trans (Nat.zero_add _)

end Gather

/-! ## The whole reference -/

variable {F : FTy → Type} [FloatOps F]

/-- The looked-up array, for any start indices that hold position `s` at `(0, s, 0)`, any mask that is set where the
    position is in range and any filler elsewhere: added to the batch it gives `withPositions`. -/
theorem lookup_eq (wf : GatherDims.WF STable SPosIdx SLooked [2] [0] [] [0] [] 2 ![1, 4096])
    (hr : SPosIdx.ReducesTo [2] SPosRow) (hu : 0 < SScalar.numel)
    (hm : SPosRow.BroadcastsInDim SLooked (![0, 1] : Fin 2 → Fin SLooked.rank))
    (hb : SLooked.BroadcastsInDim SBatch (![0, 1, 2] : Fin 3 → Fin SBatch.rank))
    (idx lo hi : IVec SPosIdx 32) (hidx : ∀ y, idx y = BitVec.ofNat 32 (y 1).val) (hlo : ∀ y, lo y = 0#32) (hhi : ∀ y, hi y = 2047#32)
    (x : FVec F SBatch .f32) (e : FVec F STable .f32) (filler : FVec F SLooked .f32) :
    addf x (broadcastInDim SBatch ![0, 1, 2] hb
        (select (broadcastInDim SLooked ![0, 1] hm
            (Host.reduce IntOp.andi (andi (cmpi .sge idx lo) (cmpi .sle idx hi)) (constantI SScalar 1 1#1) hr hu))
          (Host.gather (rowDims wf) e idx) filler))
      = withPositions x e := by
  have hmask (j : SLooked.Idx) : broadcastInDim SLooked ![0, 1] hm
      (Host.reduce IntOp.andi (andi (cmpi .sge idx lo) (cmpi .sle idx hi)) (constantI SScalar 1 1#1) hr hu) j = 1#1 := by
    refine Host.reduce_andi_one _ _ hr hu _ rfl fun y => ?_
    show IntOp.andi (IntOp.cmpi .sge (idx y) (lo y)) (IntOp.cmpi .sle (idx y) (hi y)) = 1#1
    rw [hidx, hlo, hhi]
    exact range_word (y 1).val (y 1).isLt
  funext i
  refine congrArg (FloatOps.addf (x i)) ?_
  refine (broadcastInDim_apply _ hb _ i (ix3 (0 : Fin 1) (i 1) (i 2)) fun a => ?_).trans ?_
  · match a with
    | ⟨0, _⟩ => exact (if_pos rfl).symm
    | ⟨1, _⟩ => exact (if_neg (show ¬(2048 : Nat) = 1 by omega)).symm
    | ⟨2, _⟩ => exact (if_neg (show ¬(4096 : Nat) = 1 by omega)).symm
  · rw [select_apply, hmask, select_one]
    exact gatherRows_apply wf e idx hidx _

end Cert.Embed

end
-- ==== Proof.Embed.ReferenceIdeal.lean ====
/-
  The reference read over the extended reals: its result array is the batch with the table added to it. Its run is given as one composed term
  of its arguments; the lookup in that term is read in Embed/Lookup.lean.
-/
module

public import proofs.«01_k».proof.Proof.Embed.Lookup
public import proofs.«01_k».proof.Proof.Gen.ReferenceIdeal.Run

@[expose] public section

noncomputable section

namespace Cert.ReferenceIdeal.Embed

open Cert.ReferenceIdeal Cert.ReferenceIdeal.Gen Idealize.ShloMosaic Idealize.ShloMosaic.TcCoe Idealize.SL.Sem
open Cert.Embed (withPositions)

variable {F : FTy → Type} [FloatOps F]
variable (m : (ℓ : Loc nD τ sig) → Buf (Elt F) ℓ) (ρ : Dev nD → PrngReg)

/-- Device `c`'s batch with its table added: what the result array is shown to hold. -/
abbrev total (c : Dev nD) : Buf (Elt F) ((c : Thread nD τ).loc main_v4) :=
  withPositions (F := F) (m ((c : Thread nD τ).loc main_arg0)) (m ((c : Thread nD τ).loc main_arg1))

/-- Every run of the reference terminates with the result array at `total` and the arguments unchanged. -/
theorem run : θ_run defs (onTc (τ := τ) (main (F := F))) ⟨m, fun _ => 0, ρ⟩ fun r => ∀ c : Dev nD,
      r.2.mem ((c : Thread nD τ).loc main_v4) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
      (Cert.Embed.lookup_eq gather_S2048x4096_S1x2048x1_S1x2048x4096_2_0_n_n_0_2_14096_wf reducesTo_S1x2048x1_S1x2048_d2 h_S_
        bcast_S1x2048_S1x2048x4096_0_1 bcast_S1x2048x4096_S4x2048x4096_0_1_2 _ _ _
        (Cert.Embed.startIdx_apply bcast_S2048_S1x2048_1 bcast_S_S1x2048 bcast_S1x2048_S1x2048x1_0_1)
        (fun _ => rfl) (fun _ => rfl) _ _ _), (h c).2⟩)
    (Value.run m ρ)

end Cert.ReferenceIdeal.Embed

end
-- ==== Proof.lean ====
/-
  The proof of `Cert.Claim`: the kernel that adds a table of position embeddings to a batch of sequences, tile by tile,
  computes what the lookup of every position and the addition compute, over the extended reals (`algebraic`) and word for
  word (`bitexact`); and each program terminates, leaves its arguments and ends with every semaphore counter at zero.

  Proof/Embed/Spec.lean states the common value, Embed/Kernel.lean and Embed/KernelIdeal.lean show that the kernel's result
  is it, Embed/Lookup.lean reads the reference's lookup at an index, and Embed/Reference.lean and Embed/ReferenceIdeal.lean
  show that the reference's result is it. Here they are put together.
-/
module

public import proofs.«01_k».proof.Defs
public import proofs.«01_k».proof.Proof.Gen.Kernel
public import proofs.«01_k».proof.Proof.Gen.Kernel.Frame
public import proofs.«01_k».proof.Proof.Gen.Kernel.Value
public import proofs.«01_k».proof.Proof.Gen.KernelIdeal
public import proofs.«01_k».proof.Proof.Gen.KernelIdeal.Frame
public import proofs.«01_k».proof.Proof.Gen.KernelIdeal.Value
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Embed.Kernel
public import proofs.«01_k».proof.Proof.Embed.KernelIdeal
public import proofs.«01_k».proof.Proof.Embed.Reference
public import proofs.«01_k».proof.Proof.Embed.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs, leaves its arguments and ends quiescent. -/
theorem frame_kernel : Cert.quiescent_Kernel := fun m ρ _ => Cert.Kernel.Gen.frame m ρ
/-- So does the kernel over the extended reals. -/
theorem frame_kernelIdeal : Cert.quiescent_KernelIdeal := fun m ρ _ => Cert.KernelIdeal.Gen.frame m ρ

/-- The reference runs and leaves its arguments; it declares no semaphore. -/
theorem frame_reference : Cert.quiescent_Reference := fun m ρ _ =>
  (θ_run Cert.Reference.defs _ _).mono (fun r h => ⟨fun c => (h c).2, sem_eq_zero_of_no_sems (by decide) r.2⟩)
    (Cert.Reference.Embed.run (F := Bits) m ρ)
/-- So does the reference over the extended reals. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Embed.run (F := Ideal) m ρ)

/-- The idealization rewrote no operation. -/
theorem preserves : Cert.preserves_Kernel_KernelIdeal := trivial

/-- Over the extended reals both results are the batch with the table added. -/
theorem algebraic : Cert.algebraic_KernelIdeal_ReferenceIdeal := by
  intro m ρ m' ρ' _ hagree
  refine ⟨fun c => Cert.KernelIdeal.Embed.total m c, Cert.KernelIdeal.Embed.run (F := Ideal) m ρ, ?_⟩
  refine (θ_run Cert.ReferenceIdeal.defs _ _).mono (fun _ h c => ⟨(h c).1.trans ?_, (h c).2⟩)
    (Cert.ReferenceIdeal.Embed.run (F := Ideal) m' ρ')
  exact congrArg₂ (Cert.Embed.withPositions (F := Ideal)) (hagree c).1 (hagree c).2

/-- Word for word, with the float addition opaque, both results are the batch with the table added. -/
theorem bitexact : Cert.bitexact_Kernel_Reference := by
  intro m ρ m' ρ' _ hagree
  refine ⟨fun c => Cert.Kernel.Embed.total m c, Cert.Kernel.Embed.run (F := Bits) m ρ, ?_⟩
  refine (θ_run Cert.Reference.defs _ _).mono (fun _ h c => ⟨(h c).1.trans ?_, (h c).2⟩)
    (Cert.Reference.Embed.run (F := Bits) m' ρ')
  exact congrArg₂ (Cert.Embed.withPositions (F := Bits)) (hagree c).1 (hagree c).2

theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, preserves, algebraic, bitexact⟩

end Cert.Proof

end
